-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1x1 : Shape := ⟨2, ![1, 1]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩
abbrev S255x256 : Shape := ⟨2, ![255, 256]⟩
abbrev S1x256x256 : Shape := ⟨3, ![1, 256, 256]⟩

abbrev nBuf : Space → Nat
  | .hbm => 4
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S1x1, .f32⟩
  | .hbm, ⟨3, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S1x1, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S256x256 : Shape := ⟨2, ![256, 256]⟩
abbrev S512x256 : Shape := ⟨2, ![512, 256]⟩
abbrev S512x1x256 : Shape := ⟨3, ![512, 1, 256]⟩
abbrev S1x512x256 : Shape := ⟨3, ![1, 512, 256]⟩
abbrev S512x512x256 : Shape := ⟨3, ![512, 512, 256]⟩
abbrev S_ : Shape := ⟨0, ![]⟩
abbrev S256 : Shape := ⟨1, ![256]⟩
abbrev S256x1 : Shape := ⟨2, ![256, 1]⟩
abbrev S256x2 : Shape := ⟨2, ![256, 2]⟩

abbrev nBuf : Space → Nat
  | .hbm => 183
  | .vmem => 0
  | .smem => 0
  | _ => 0

abbrev hbmTy0_0 (i : Nat) : BufTy := match i % 128 with
  | 0 => ⟨S256x256, .f32⟩
  | 1 => ⟨S256x256, .f32⟩
  | 2 => ⟨S512x256, .f32⟩
  | 3 => ⟨S512x1x256, .f32⟩
  | 4 => ⟨S1x512x256, .f32⟩
  | 5 => ⟨S512x512x256, .f32⟩
  | 6 => ⟨S512x512x256, .f32⟩
  | 7 => ⟨S512x512x256, .f32⟩
  | 8 => ⟨S512x512x256, .f32⟩
  | 9 => ⟨S_, .f32⟩
  | 10 => ⟨S_, .f32⟩
  | 11 => ⟨S512x512x256, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S512x512x256, .f32⟩
  | 20 => ⟨S512x512x256, .f32⟩
  | 21 => ⟨S_, .f32⟩
  | 22 => ⟨S_, .f32⟩
  | 23 => ⟨S512x512x256, .f32⟩
  | 24 => ⟨S512x512x256, .f32⟩
  | 25 => ⟨S512x512x256, .f32⟩
  | 26 => ⟨S512x512x256, .f32⟩
  | 27 => ⟨S512x512x256, .f32⟩
  | 28 => ⟨S_, .f32⟩
  | 29 => ⟨S_, .f32⟩
  | 30 => ⟨S512x512x256, .f32⟩
  | 31 => ⟨S512x512x256, .f32⟩
  | 32 => ⟨S512x512x256, .f32⟩
  | 33 => ⟨S512x512x256, .f32⟩
  | 34 => ⟨S512x512x256, .f32⟩
  | 35 => ⟨S_, .f32⟩
  | 36 => ⟨S_, .f32⟩
  | 37 => ⟨S512x512x256, .f32⟩
  | 38 => ⟨S512x512x256, .f32⟩
  | 39 => ⟨S512x512x256, .f32⟩
  | 40 => ⟨S512x512x256, .f32⟩
  | 41 => ⟨S512x512x256, .f32⟩
  | 42 => ⟨S_, .f32⟩
  | 43 => ⟨S_, .f32⟩
  | 44 => ⟨S512x512x256, .f32⟩
  | 45 => ⟨S512x512x256, .f32⟩
  | 46 => ⟨S512x512x256, .f32⟩
  | 47 => ⟨S512x512x256, .f32⟩
  | 48 => ⟨S512x512x256, .f32⟩
  | 49 => ⟨S_, .f32⟩
  | 50 => ⟨S_, .f32⟩
  | 51 => ⟨S512x512x256, .f32⟩
  | 52 => ⟨S512x512x256, .f32⟩
  | 53 => ⟨S512x512x256, .f32⟩
  | 54 => ⟨S512x512x256, .f32⟩
  | 55 => ⟨S256, .i32⟩
  | 56 => ⟨S_, .i32⟩
  | 57 => ⟨S256, .i32⟩
  | 58 => ⟨S256, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S256, .i32⟩
  | 66 => ⟨S256, .i32⟩
  | 67 => ⟨S_, .i32⟩
  | 68 => ⟨S256, .i32⟩
  | 69 => ⟨S256, .i1⟩
  | 70 => ⟨S_, .i32⟩
  | 71 => ⟨S256, .i32⟩
  | 72 => ⟨S256, .i1⟩
  | 73 => ⟨S_, .i32⟩
  | 74 => ⟨S_, .i1⟩
  | 75 => ⟨S256, .i1⟩
  | 76 => ⟨S256, .i1⟩
  | 77 => ⟨S256, .i1⟩
  | 78 => ⟨S256, .i32⟩
  | 79 => ⟨S256, .i32⟩
  | 80 => ⟨S256, .i32⟩
  | 81 => ⟨S_, .i32⟩
  | 82 => ⟨S256, .i32⟩
  | 83 => ⟨S256, .i1⟩
  | 84 => ⟨S_, .i32⟩
  | 85 => ⟨S256, .i32⟩
  | 86 => ⟨S256, .i32⟩
  | 87 => ⟨S256, .i32⟩
  | 88 => ⟨S_, .i32⟩
  | 89 => ⟨S256, .i32⟩
  | 90 => ⟨S256, .i1⟩
  | 91 => ⟨S_, .i32⟩
  | 92 => ⟨S256, .i32⟩
  | 93 => ⟨S256, .i32⟩
  | 94 => ⟨S256, .i32⟩
  | 95 => ⟨S256x1, .i32⟩
  | 96 => ⟨S256x1, .i32⟩
  | 97 => ⟨S256x2, .i32⟩
  | 98 => ⟨S256x256, .f32⟩
  | 99 => ⟨S_, .f32⟩
  | 100 => ⟨S256, .f32⟩
  | 101 => ⟨S_, .i32⟩
  | 102 => ⟨S256, .i32⟩
  | 103 => ⟨S256, .i32⟩
  | 104 => ⟨S_, .i32⟩
  | 105 => ⟨S256, .i32⟩
  | 106 => ⟨S256, .i32⟩
  | 107 => ⟨S_, .i32⟩
  | 108 => ⟨S256, .i32⟩
  | 109 => ⟨S256, .i1⟩
  | 110 => ⟨S_, .i32⟩
  | 111 => ⟨S256, .i32⟩
  | 112 => ⟨S256, .i32⟩
  | 113 => ⟨S256, .i32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S256, .i32⟩
  | 121 => ⟨S256x1, .i32⟩
  | 122 => ⟨S256x1, .i32⟩
  | 123 => ⟨S256x2, .i32⟩
  | 124 => ⟨S256x256, .f32⟩
  | 125 => ⟨S_, .f32⟩
  | 126 => ⟨S256, .f32⟩
  | 127 => ⟨S256, .f32⟩
  | _ => ⟨S256x256, .f32⟩

abbrev hbmTy0_1 (i : Nat) : BufTy := match i % 128 with
  | 0 => ⟨S_, .i32⟩
  | 1 => ⟨S256, .i32⟩
  | 2 => ⟨S256, .i32⟩
  | 3 => ⟨S_, .i32⟩
  | 4 => ⟨S256, .i32⟩
  | 5 => ⟨S256, .i1⟩
  | 6 => ⟨S_, .i32⟩
  | 7 => ⟨S256, .i32⟩
  | 8 => ⟨S256, .i32⟩
  | 9 => ⟨S256, .i32⟩
  | 10 => ⟨S_, .i32⟩
  | 11 => ⟨S256, .i32⟩
  | 12 => ⟨S256, .i1⟩
  | 13 => ⟨S_, .i32⟩
  | 14 => ⟨S256, .i32⟩
  | 15 => ⟨S256, .i32⟩
  | 16 => ⟨S256, .i32⟩
  | 17 => ⟨S256x1, .i32⟩
  | 18 => ⟨S256x1, .i32⟩
  | 19 => ⟨S256x2, .i32⟩
  | 20 => ⟨S256x256, .f32⟩
  | 21 => ⟨S_, .f32⟩
  | 22 => ⟨S256, .f32⟩
  | 23 => ⟨S256, .f32⟩
  | 24 => ⟨S_, .i32⟩
  | 25 => ⟨S256, .i32⟩
  | 26 => ⟨S256, .i32⟩
  | 27 => ⟨S_, .i32⟩
  | 28 => ⟨S256, .i32⟩
  | 29 => ⟨S256, .i1⟩
  | 30 => ⟨S_, .i32⟩
  | 31 => ⟨S256, .i32⟩
  | 32 => ⟨S256, .i32⟩
  | 33 => ⟨S256, .i32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S256x1, .i32⟩
  | 43 => ⟨S256x2, .i32⟩
  | 44 => ⟨S256x256, .f32⟩
  | 45 => ⟨S_, .f32⟩
  | 46 => ⟨S256, .f32⟩
  | 47 => ⟨S256, .f32⟩
  | 48 => ⟨S_, .f32⟩
  | 49 => ⟨S256, .f32⟩
  | 50 => ⟨S256, .f32⟩
  | 51 => ⟨S_, .f32⟩
  | 52 => ⟨S_, .f32⟩
  | 53 => ⟨S_, .f32⟩
  | 54 => ⟨S_, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_call0_cst : Ref sig .tc := ⟨.hbm, 9, rfl⟩
abbrev main_call0_call0_v0 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v45 : Ref sig .tc := ⟨.hbm, 80, rfl⟩
abbrev main_c_9 : Ref sig .tc := ⟨.hbm, 81, rfl⟩
abbrev main_v46 : Ref sig .tc := ⟨.hbm, 82, rfl⟩
abbrev main_v47 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_c_14 : Ref sig .tc := ⟨.hbm, 101, rfl⟩
abbrev main_v61 : Ref sig .tc := ⟨.hbm, 102, rfl⟩
abbrev main_v62 : Ref sig .tc := ⟨.hbm, 103, rfl⟩
abbrev main_c_15 : Ref sig .tc := ⟨.hbm, 104, rfl⟩
abbrev main_v63 : Ref sig .tc := ⟨.hbm, 105, rfl⟩
abbrev main_v64 : Ref sig .tc := ⟨.hbm, 106, rfl⟩
abbrev main_c_16 : Ref sig .tc := ⟨.hbm, 107, rfl⟩
abbrev main_v65 : Ref sig .tc := ⟨.hbm, 108, rfl⟩
abbrev main_v66 : Ref sig .tc := ⟨.hbm, 109, rfl⟩
abbrev main_c_17 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_18 : Ref sig .tc := ⟨.hbm, 114, rfl⟩
abbrev main_v70 : Ref sig .tc := ⟨.hbm, 115, rfl⟩
abbrev main_v71 : Ref sig .tc := ⟨.hbm, 116, rfl⟩
abbrev main_c_19 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_20 : Ref sig .tc := ⟨.hbm, 125, rfl⟩
abbrev main_v79 : Ref sig .tc := ⟨.hbm, 126, rfl⟩
abbrev main_v80 : Ref sig .tc := ⟨.hbm, 127, rfl⟩
abbrev main_c_21 : Ref sig .tc := ⟨.hbm, 128, rfl⟩
abbrev main_v81 : Ref sig .tc := ⟨.hbm, 129, rfl⟩
abbrev main_v82 : Ref sig .tc := ⟨.hbm, 130, rfl⟩
abbrev main_c_22 : Ref sig .tc := ⟨.hbm, 131, rfl⟩
abbrev main_v83 : Ref sig .tc := ⟨.hbm, 132, rfl⟩
abbrev main_v84 : Ref sig .tc := ⟨.hbm, 133, rfl⟩
abbrev main_c_23 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_24 : Ref sig .tc := ⟨.hbm, 138, rfl⟩
abbrev main_v88 : Ref sig .tc := ⟨.hbm, 139, rfl⟩
abbrev main_v89 : Ref sig .tc := ⟨.hbm, 140, rfl⟩
abbrev main_c_25 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_26 : Ref sig .tc := ⟨.hbm, 149, rfl⟩
abbrev main_v97 : Ref sig .tc := ⟨.hbm, 150, rfl⟩
abbrev main_v98 : Ref sig .tc := ⟨.hbm, 151, rfl⟩
abbrev main_c_27 : Ref sig .tc := ⟨.hbm, 152, rfl⟩
abbrev main_v99 : Ref sig .tc := ⟨.hbm, 153, rfl⟩
abbrev main_v100 : Ref sig .tc := ⟨.hbm, 154, rfl⟩
abbrev main_c_28 : Ref sig .tc := ⟨.hbm, 155, rfl⟩
abbrev main_v101 : Ref sig .tc := ⟨.hbm, 156, rfl⟩
abbrev main_v102 : Ref sig .tc := ⟨.hbm, 157, rfl⟩
abbrev main_c_29 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_c_30 : Ref sig .tc := ⟨.hbm, 162, rfl⟩
abbrev main_v106 : Ref sig .tc := ⟨.hbm, 163, rfl⟩
abbrev main_v107 : Ref sig .tc := ⟨.hbm, 164, rfl⟩
abbrev main_c_31 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_cst_32 : Ref sig .tc := ⟨.hbm, 173, rfl⟩
abbrev main_v115 : Ref sig .tc := ⟨.hbm, 174, rfl⟩
abbrev main_v116 : Ref sig .tc := ⟨.hbm, 175, rfl⟩
abbrev main_cst_33 : Ref sig .tc := ⟨.hbm, 176, rfl⟩
abbrev main_v117 : Ref sig .tc := ⟨.hbm, 177, rfl⟩
abbrev main_v118 : Ref sig .tc := ⟨.hbm, 178, rfl⟩
abbrev main_cst_34 : Ref sig .tc := ⟨.hbm, 179, rfl⟩
abbrev main_v119 : Ref sig .tc := ⟨.hbm, 180, rfl⟩
abbrev main_cst_35 : Ref sig .tc := ⟨.hbm, 181, rfl⟩
abbrev main_v120 : Ref sig .tc := ⟨.hbm, 182, rfl⟩

abbrev nD : Nat := 1
abbrev τ : Topo := Topo.v7x

variable {F : FTy → Type} [FloatOps F]
-- ==== Proof.Forms.lean ====
/- The two closed forms the programs are read to: the kernel's value and the reference's value, each over the two
   256×256 arrays `s` (source) and `t` (target) of extended reals. -/
module

public import Idealize.ShloMosaic.PureOps.Ideal
public import Idealize.ShloMosaic.Lib.Pointwise.Index

@[expose] public section

noncomputable section

namespace Cert.Mmd

open Idealize.ShloMosaic

/-- One argument array: 256 rows of 256 features. -/
abbrev Mat := Fin 256 → Fin 256 → EReal

/-- An array's contents by its two coordinates. -/
def mat (x : (⟨2, ![256, 256]⟩ : Shape).Idx → EReal) : Mat := fun i k => x (ix2 i k)

/-! ## The kernel's side -/

/-- The row after `i`, cyclically. -/
def nxt (i : Fin 256) : Fin 256 := i + 1

/-- The sum of column `k` of both arrays. -/
def colSum (s t : Mat) (k : Fin 256) : EReal := ∑ i, s i k + ∑ i, t i k

/-- The sum of the squares of column `k` of both arrays. -/
def colSq (s t : Mat) (k : Fin 256) : EReal := ∑ i, s i k * s i k + ∑ i, t i k * t i k

/-- Column `k`'s total of squared differences over all pairs of the 512 rows, by the two moments. -/
def colPair (s t : Mat) (k : Fin 256) : EReal :=
  ((1024 : ℝ) : EReal) * colSq s t k - ((2 : ℝ) : EReal) * colSum s t k * colSum s t k

/-- The weighted total over the columns: column `k` counts `256 - k` times. -/
def band (s t : Mat) : EReal := ∑ k : Fin 256, ((256 - (k.val : ℝ) : ℝ) : EReal) * colPair s t k

/-- The coefficient of the kernel's exponent: `-(1 / log 2)` over sixteen bandwidths. -/
def coef (s t : Mat) : EReal :=
  Ideal.div ((-((Real.log 2)⁻¹) : ℝ) : EReal)
    (Ideal.div (Ideal.div (band s t) ((261632 : ℝ) : EReal)) ((4 : ℝ) : EReal) * ((16 : ℝ) : EReal))

/-- The triangle of ones: row `q` reaches the columns from `q` on. -/
def tri (q k : Fin 256) : EReal := if q ≤ k then 1 else 0

/-- The squared difference of two rows at feature `q`. -/
def sqd (u v : Fin 256 → EReal) (q : Fin 256) : EReal := (u q - v q) * (u q - v q)

/-- The kernel's prefix sum of squared differences: two triangular products, the second of the square minus itself. -/
def cum (u v : Fin 256 → EReal) (k : Fin 256) : EReal :=
  (0 + ∑ q, sqd u v q * tri q k) + (0 + ∑ q, (sqd u v q - sqd u v q) * tri q k)

/-- The sum of the powers 1, 2, 4, 8 and 16 of `z`, by repeated squaring. -/
def five (z : EReal) : EReal :=
  (((z + z * z) + z * z * (z * z)) + z * z * (z * z) * (z * z * (z * z)))
    + z * z * (z * z) * (z * z * (z * z)) * (z * z * (z * z) * (z * z * (z * z)))

/-- The kernel's five-kernel sum for two rows up to feature `k`, at the exponent coefficient `g`. -/
def kker (g : EReal) (u v : Fin 256 → EReal) (k : Fin 256) : EReal := five (Ideal.exp2 (cum u v k * g))

/-- The kernel's last step: the signed combination summed over all entries and scaled by 2⁻¹⁶. -/
def kcomb (A B C D : Mat) : EReal :=
  (∑ i, ∑ k, (((A i k + B i k) - C i k) - D i k)) * (((65536 : ℝ)⁻¹ : ℝ) : EReal)

/-- The kernel's value. -/
def kernelVal (s t : Mat) : EReal :=
  kcomb (fun i => kker (coef s t) (s i) (s (nxt i))) (fun i => kker (coef s t) (t i) (t (nxt i)))
    (fun i => kker (coef s t) (s i) (t (nxt i))) (fun i => kker (coef s t) (s (nxt i)) (t i))

/-! ## The reference's side -/

/-- The 512 rows: the source's, then the target's. -/
def rows (s t : Mat) (p : Fin 512) : Fin 256 → EReal :=
  if h : p.val < 256 then s ⟨p.val, h⟩ else t ⟨p.val - 256, by omega⟩

/-- The cumulative squared distance of two rows up to feature `k`. -/
def dist2 (u v : Fin 256 → EReal) (k : Fin 256) : EReal := ∑ q, if q ≤ k then sqd u v q else 0

/-- The bandwidth: all cumulative distances summed, over `512² - 512`, over 4. -/
def bandwidth (s t : Mat) : EReal :=
  Ideal.div (Ideal.div (0 + ∑ p, ∑ q, ∑ k, dist2 (rows s t p) (rows s t q) k) ((261632 : ℝ) : EReal))
    ((4 : ℝ) : EReal)

/-- The reference's five-kernel sum for two rows up to feature `k`, at the bandwidth `b`. -/
def rker (b : EReal) (u v : Fin 256 → EReal) (k : Fin 256) : EReal :=
  ((((0 + Ideal.exp (Ideal.div (-dist2 u v k) (b * ((1 : ℝ) : EReal))))
    + Ideal.exp (Ideal.div (-dist2 u v k) (b * ((2 : ℝ) : EReal))))
    + Ideal.exp (Ideal.div (-dist2 u v k) (b * ((4 : ℝ) : EReal))))
    + Ideal.exp (Ideal.div (-dist2 u v k) (b * ((8 : ℝ) : EReal))))
    + Ideal.exp (Ideal.div (-dist2 u v k) (b * ((16 : ℝ) : EReal)))

/-- The reference's last step: the row sums combined, averaged over the rows, then over the features. -/
def rcomb (A B C D : Mat) : EReal :=
  Ideal.div (0 + ∑ k, Ideal.div ((((0 + ∑ i, A i k) + (0 + ∑ i, B i k)) - (0 + ∑ i, C i k)) - (0 + ∑ i, D i k))
    ((256 : ℝ) : EReal)) ((256 : ℝ) : EReal)

/-- Row `i` of the source half. -/
def lo (i : Fin 256) : Fin 512 := ⟨i.val, by omega⟩

/-- Row `i` of the target half. -/
def hi (i : Fin 256) : Fin 512 := ⟨i.val + 256, by omega⟩

/-- The reference's value. -/
def referenceVal (s t : Mat) : EReal :=
  rcomb (fun i => rker (bandwidth s t) (rows s t (lo i)) (rows s t (lo (nxt i))))
    (fun i => rker (bandwidth s t) (rows s t (hi i)) (rows s t (hi (nxt i))))
    (fun i => rker (bandwidth s t) (rows s t (lo i)) (rows s t (hi (nxt i))))
    (fun i => rker (bandwidth s t) (rows s t (lo (nxt i))) (rows s t (hi i)))

end Cert.Mmd

end
-- ==== Proof.Consts.lean ====
/- The float literals the two programs hold, as extended reals. -/
module

public import Idealize.ShloMosaic.PureOps.Ideal.Laws

@[expose] public section

namespace Cert.Mmd

open Idealize.ShloMosaic

/-- The literal 2. -/
theorem lit_2 : Ideal.ofBits .f32 0x40000000#32 = ((2 : ℝ) : EReal) := by
  simp [Ideal.ofBits, Ideal.ieee, -EReal.coe_mul]; norm_num

/-- The literal 4. -/
theorem lit_4 : Ideal.ofBits .f32 0x40800000#32 = ((4 : ℝ) : EReal) := by
  simp [Ideal.ofBits, Ideal.ieee, -EReal.coe_mul]; norm_num

/-- The literal 8. -/
theorem lit_8 : Ideal.ofBits .f32 0x41000000#32 = ((8 : ℝ) : EReal) := by
  simp [Ideal.ofBits, Ideal.ieee, -EReal.coe_mul]; norm_num

/-- The literal 16. -/
theorem lit_16 : Ideal.ofBits .f32 0x41800000#32 = ((16 : ℝ) : EReal) := by
  simp [Ideal.ofBits, Ideal.ieee, -EReal.coe_mul]; norm_num

/-- The literal 256. -/
theorem lit_256 : Ideal.ofBits .f32 0x43800000#32 = ((256 : ℝ) : EReal) := by
  simp [Ideal.ofBits, Ideal.ieee, -EReal.coe_mul]; norm_num

/-- The literal 1024. -/
theorem lit_1024 : Ideal.ofBits .f32 0x44800000#32 = ((1024 : ℝ) : EReal) := by
  simp [Ideal.ofBits, Ideal.ieee, -EReal.coe_mul]; norm_num

/-- The literal 261632 = 512² − 512. -/
theorem lit_261632 : Ideal.ofBits .f32 0x487F8000#32 = ((261632 : ℝ) : EReal) := by
  simp [Ideal.ofBits, Ideal.ieee, -EReal.coe_mul]; norm_num

/-- The literal 2⁻¹⁶. -/
theorem lit_scale : Ideal.ofBits .f32 0x37800000#32 = (((65536 : ℝ)⁻¹ : ℝ) : EReal) := by
  simp [Ideal.ofBits, Ideal.ieee, -EReal.coe_mul]; norm_num

end Cert.Mmd
-- ==== Proof.KernelRun.lean ====
/- The idealized kernel's run: its scalar result is the reshape of the one block the kernel body leaves, computed from
   the two argument arrays as launched. -/
module

public import proofs.«01_k».proof.Proof.Gen.KernelIdeal.Frame
public import Idealize.ShloMosaic.Lib.Pipeline.Value

@[expose] public section

noncomputable section

namespace Cert.KernelIdeal.RunValue

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The first window's block at the one point is the first argument array. -/
theorem iblk_src (c : Dev nD) : iblk m c 0 t0_0 = m ((c.tc : Thread nD τ).loc main_arg0) := by
  have off : (fun a => (win0_0.index t0_0) a * main_arg0.ty.shape.size a) = fun _ => 0 :=
    funext fun a => by fin_cases a <;> decide
  exact Memref.read_access_unit_zero (Elt F) main_arg0 off (fun a => by fin_cases a <;> decide) _

/-- The second window's block at the one point is the second argument array. -/
theorem iblk_tgt (c : Dev nD) : iblk m c 1 t0_0 = m ((c.tc : Thread nD τ).loc main_arg1) := by
  have off : (fun a => (win0_1.index t0_0) a * main_arg1.ty.shape.size a) = fun _ => 0 :=
    funext fun a => by fin_cases a <;> decide
  exact Memref.read_access_unit_zero (Elt F) main_arg1 off (fun a => by fin_cases a <;> decide) _

/-- The output array after the run is what the body leaves from the two argument arrays. -/
theorem arr_out (c : Dev nD) :
    (dats (F := F) m 0 c).arrAt (2 : Fin 3) cfg0.N
      = out0_2 (m ((c.tc : Thread nD τ).loc main_arg0)) (m ((c.tc : Thread nD τ).loc main_arg1)) := by
  have off : (fun a => (win0_2.index t0_0) a * main_call0_v0.ty.shape.size a) = fun _ => 0 :=
    funext fun a => by fin_cases a <;> decide
  have whole := Memref.read_access_unit_zero (Elt F) main_call0_v0 off (fun a => by fin_cases a <;> decide)
    ((dats (F := F) m 0 c).arrAt (2 : Fin 3) cfg0.N)
  have back : ((cfg0.win (2 : Fin 3)).blk t0_0).view.read (Elt F) ((dats (F := F) m 0 c).arrAt (2 : Fin 3) cfg0.N)
      = (dats (F := F) m 0 c).flushed (2 : Fin 3) t0_0 := by
    rw [show cfg0.N = (t0_0 : Fin cfg0.N).val + 1 from rfl, (dats (F := F) m 0 c).arrAt_succ (2 : Fin 3) t0_0,
      if_pos (flush0_2 t0_0)]
    exact View.read_write_univ _ _
  refine (whole.symm.trans back).trans ?_
  show (cfg0.win (2 : Fin 3)).cut _ ((dats (F := F) m 0 c).after 2 t0_0) = _
  rw [after0_2, iblk_src, iblk_tgt]
  rfl

/-- The kernel's value: the one entry of the block, as a scalar. -/
def result (x0 x1 : Vec F S256x256 .f32) : (⟨S_, .f32⟩ : BufTy).Contents (Elt F) :=
  shapeCast S_ (out0_2 x0 x1) shapeCasts_S1x1_S_

/-- What the trailing reshape leaves in the result buffer. -/
theorem tail_out (c : Dev nD) :
    Pipeline.afterTail₀ cfgs (dats m) 0 (V0 m) [hostOps1] c main_v0
      = result (m ((c.tc : Thread nD τ).loc main_arg0)) (m ((c.tc : Thread nD τ).loc main_arg1)) := by
  have exitArr := Pipeline.withArrays_arr (τ := τ) spec0 winFacts0.arr_inj c (V0 m c)
    (fun w => (dats m 0 c).arrAt w cfg0.N) (2 : Fin 3)
  rw [arr_out] at exitArr
  unfold Pipeline.afterTail₀ result
  rw [show [(hostOps1 : List (HloOp τ sig (Elt F)))].flatten = hostOps1 from List.append_nil _]
  unfold hostOps1
  rw [StableHlo.after_cons, StableHlo.after_nil]
  refine (StableHlo.reshape_result main_call0_v0 main_v0 _ _ _ _ _).trans ?_
  funext i
  exact congrFun (congrArg (fun v => shapeCast S_ v shapeCasts_S1x1_S_) exitArr) i

/-- From any memory with zero counters the idealized kernel ends with its result at `result` of the argument arrays,
    the arguments unchanged. -/
theorem run : θ_run defs (onTc (τ := τ) (main (F := F))) ⟨m, fun _ => 0, ρ⟩ (fun r => ∀ c : Dev nD,
      r.2.mem ((c.tc : Thread nD τ).loc main_v0)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v0 (by decide)).trans (tail_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.KernelValue.lean ====
/- The kernel body's block read to its closed form: the bandwidth coefficient, the rolled arrays, the triangle, the four
   five-kernel sums, and their combination. -/
module

public import proofs.«01_k».proof.Proof.Forms
public import proofs.«01_k».proof.Proof.Consts
public import proofs.«01_k».proof.Proof.KernelRun
public import Idealize.ShloMosaic.Lib.Pointwise
public import Idealize.ShloMosaic.Lib.MatmulPlain

@[expose] public section

noncomputable section

namespace Cert.KernelIdeal.RunValue

open Cert.KernelIdeal Cert.KernelIdeal.Gen Cert.Mmd
open Idealize.ShloMosaic

/-- The literal one, as the body passes it. -/
abbrev one : Ideal .f32 := Scalar.ofBits .f32 0x3F800000#32

/-- The literal zero, as the body passes it. -/
abbrev zero : Ideal .f32 := Scalar.ofBits .f32 0x00000000#32

/-- The rows moved up by one and the first put last: row `i` is the next row. -/
theorem next_row (x : Vec Ideal S256x256 .f32) (i k : Fin 256) :
    (if h : i.val < 255 then x (ix2 ⟨1 + i.val, by omega⟩ k) else x (ix2 ⟨i.val - 255, by omega⟩ k))
      = x (ix2 (nxt i) k) := by
  have v : (nxt i).val = (i.val + 1) % 256 := rfl
  split_ifs with h
  · exact congrArg (fun r => x (ix2 r k)) (Fin.ext (by rw [v]; simp only; omega))
  · exact congrArg (fun r => x (ix2 r k)) (Fin.ext (by rw [v]; simp only; omega))

/-- The rolled source array. -/
theorem rolled_src (x : Vec Ideal S256x256 .f32) (i k : Fin 256) : k0_pay3 x (ix2 i k) = x (ix2 (nxt i) k) := by
  unfold k0_pay3
  pointwise
  exact next_row x i k

/-- The rolled target array. -/
theorem rolled_tgt (x : Vec Ideal S256x256 .f32) (i k : Fin 256) : k0_pay4 x (ix2 i k) = x (ix2 (nxt i) k) := by
  unfold k0_pay4
  pointwise
  exact next_row x i k

/-- The weight of column `k`, an integer made a float: `256 - k`. -/
theorem weight_eq (k : Fin 256) :
    FloatOps.sitofp (F := Ideal) .f32 (IntOp.subi (256#32) (BitVec.ofNat 32 k.val))
      = ((256 - (k.val : ℝ) : ℝ) : EReal) := by
  have e : ∀ k : Fin 256, (IntOp.subi (256#32) (BitVec.ofNat 32 k.val)).toInt = 256 - (k.val : ℤ) := by decide +kernel
  show (((IntOp.subi (256#32) (BitVec.ofNat 32 k.val)).toInt : ℝ) : EReal) = _
  rw [e]
  push_cast
  rfl

/-- The exponent's coefficient. -/
theorem coef_eq (x0 x1 : Vec Ideal S256x256 .f32) : k0_pay2 x0 x1 = coef (mat x0) (mat x1) := by
  unfold k0_pay2
  pointwise [IdealRules.named_const.ideal_named_scalar κ "neg_log2_e" (φ := .f32) 0xBFB8AA3B#32
    ((-((Real.log 2)⁻¹) : ℝ) : EReal) rfl, weight_eq, lit_1024, lit_2, lit_261632, lit_4, lit_16]
  rw [Fin.sum_univ_one]
  rfl

/-- The triangle of ones. -/
theorem tri_eq (q k : Fin 256) : k0_pay6 (F := Ideal) k0_pay5 one zero (ix2 q k) = tri q k := by
  have e : IntOp.cmpi .sle (BitVec.ofNat 32 q.val) (BitVec.ofNat 32 k.val) = if q ≤ k then 1#1 else 0#1 := by
    rw [WordCmp.cmpi_sle_ofNat (by omega) (by omega)]
    by_cases h : q ≤ k
    · rw [if_pos h, decide_eq_true (show q.val ≤ k.val from h)]
      rfl
    · rw [if_neg h, decide_eq_false (show ¬ q.val ≤ k.val from h)]
      rfl
  unfold k0_pay6 k0_pay5
  pointwise [e]
  unfold tri
  split_ifs <;> rfl

/-- The body's prefix sum along the rows of a difference `d`: the triangle against the square of `d`, in two parts. -/
def prefixV (T : FVec Ideal S256x256 .bf16) (d : FVec Ideal S256x256 .f32) : FVec Ideal S256x256 .f32 :=
  addf (matmul dot_S256x256_S256x256_S256x256_1_0_0_1_n_n none (truncf .bf16 (mulf d d) bitsLt_bf16_f32) T
      (constant S256x256 .f32 0x00000000#32))
    (matmul dot_S256x256_S256x256_S256x256_1_0_0_1_n_n none
      (truncf .bf16 (subf (mulf d d) (extf .f32 (truncf .bf16 (mulf d d) bitsLt_bf16_f32 : FVec Ideal S256x256 .bf16)
        bitsLt_bf16_f32)) bitsLt_bf16_f32) T
      (constant S256x256 .f32 0x00000000#32))

/-- The body's five-kernel sum of the prefix sums `c` at the coefficient `g`. -/
def kernelV (g : Ideal .f32) (c : FVec Ideal S256x256 .f32) : FVec Ideal S256x256 .f32 := fun j =>
  five (Ideal.exp2 (c j * g))

/-- The prefix sums of the difference of two arrays. -/
theorem prefixV_apply (x y : FVec Ideal S256x256 .f32) (i k : Fin 256) :
    prefixV (k0_pay6 k0_pay5 one zero) (subf x y) (ix2 i k) = cum (mat x i) (mat y i) k := by
  have dot : ∀ (A : FVec Ideal S256x256 .bf16), matmul dot_S256x256_S256x256_S256x256_1_0_0_1_n_n none A
      (k0_pay6 k0_pay5 one zero) (constant S256x256 .f32 0x00000000#32) (ix2 i k)
        = 0 + ∑ q, A (ix2 i q) * tri q k := by
    intro A
    have := Ideal.matmul_plain_apply none A (k0_pay6 (F := Ideal) k0_pay5 one zero) (constant S256x256 .f32 0x00000000#32) i k
    refine Eq.trans this (congrArg₂ (· + ·) (Ideal.ofBits_zero_f32) (Finset.sum_congr rfl fun q _ => ?_))
    exact congrArg _ (tri_eq q k)
  exact congrArg₂ (· + ·) (dot _) (dot _)

/-- The body's stored value, in terms of the prefix sums and the five-kernel sums. -/
theorem stored_eq (x0 x1 : Vec Ideal S256x256 .f32) :
    k0_pay1 x1 (k0_pay2 x0 x1) (k0_pay3 x0) (k0_pay6 k0_pay5 one zero)
        (k0_pay7 x0 x1 (k0_pay2 x0 x1) (k0_pay3 x0) (k0_pay4 x1) k0_pay5 one zero)
        (k0_pay8 x0 (k0_pay4 x1) k0_pay5 one zero) (ix2 0 0)
      = kernelVal (mat x0) (mat x1) := by
  have form : ∀ (g : Ideal .f32) (y0 y1 : FVec Ideal S256x256 .f32),
      k0_pay1 x1 g y0 (k0_pay6 k0_pay5 one zero) (k0_pay7 x0 x1 g y0 y1 k0_pay5 one zero)
        (k0_pay8 x0 y1 k0_pay5 one zero) (ix2 0 0)
      = (∑ i : Fin 256, ∑ k : Fin 256,
          subf (subf (addf (kernelV g (prefixV (k0_pay6 k0_pay5 one zero) (subf x0 y0)))
              (kernelV g (prefixV (k0_pay6 k0_pay5 one zero) (subf x1 y1))))
              (kernelV g (prefixV (k0_pay6 k0_pay5 one zero) (subf x0 y1))))
            (kernelV g (prefixV (k0_pay6 k0_pay5 one zero) (subf y0 x1))) (ix2 i k))
        * (((65536 : ℝ)⁻¹ : ℝ) : EReal) := by
    intro g y0 y1
    have body : k0_pay1 x1 g y0 (k0_pay6 k0_pay5 one zero) (k0_pay7 x0 x1 g y0 y1 k0_pay5 one zero)
        (k0_pay8 x0 y1 k0_pay5 one zero)
      = mulf (broadcast S1x1 (extractAt ![0, 0, 0] (shapeCast S1x1x1 (multiReduction (F := Ideal) .add [1, 2] S1
          (shapeCast S1x256x256 (subf (subf (addf (kernelV g (prefixV (k0_pay6 k0_pay5 one zero) (subf x0 y0)))
              (kernelV g (prefixV (k0_pay6 k0_pay5 one zero) (subf x1 y1))))
              (kernelV g (prefixV (k0_pay6 k0_pay5 one zero) (subf x0 y1))))
            (kernelV g (prefixV (k0_pay6 k0_pay5 one zero) (subf y0 x1)))) shapeCasts_S256x256_S1x256x256)
          0x00000000#32 reduces_S1x256x256_S1 (.inl rfl) rfl) shapeCasts_S1_S1x1x1) inpos_S1x1x1_p0_0_0))
          (broadcast S1x1 (Scalar.ofBits (F := Ideal) .f32 0x37800000#32)) := rfl
    rw [body]
    generalize (subf (subf _ _) _ : FVec Ideal S256x256 .f32) = w
    pointwise [lit_scale]
  rw [form, coef_eq]
  unfold kernelVal kcomb
  refine congrArg (· * _) (Finset.sum_congr rfl fun i _ => Finset.sum_congr rfl fun k _ => ?_)
  have r0 : mat (k0_pay3 x0) i = mat x0 (nxt i) := funext fun k => rolled_src x0 i k
  have r1 : mat (k0_pay4 x1) i = mat x1 (nxt i) := funext fun k => rolled_tgt x1 i k
  unfold kker
  beta_reduce
  rw [← r0, ← r1, ← prefixV_apply, ← prefixV_apply, ← prefixV_apply, ← prefixV_apply]
  rfl

/-- The kernel's result, read: the closed form of the two argument arrays. -/
theorem result_eq (x0 x1 : Vec Ideal S256x256 .f32) : result x0 x1 = fun _ => kernelVal (mat x0) (mat x1) := by
  have z : (![0, 0] : Fin 2 → ℕ) = fun _ => 0 := funext fun a => by fin_cases a <;> rfl
  have ld : ∀ x : Vec Ideal S256x256 .f32, View.ld x r0_0 = x := fun x => View.ld_unit_zero z _ _
  have out : out0_2 x0 x1 = k0_pay1 x1 (k0_pay2 x0 x1) (k0_pay3 x0) (k0_pay6 k0_pay5 one zero)
        (k0_pay7 x0 x1 (k0_pay2 x0 x1) (k0_pay3 x0) (k0_pay4 x1) k0_pay5 one zero)
        (k0_pay8 x0 (k0_pay4 x1) k0_pay5 one zero) := by
    unfold_out out0_2
    rw [ld, ld]
    exact View.canon_unit_zero z _ _
  funext j
  rw [result, out, ← stored_eq]
  have all : ∀ i : S1x1.Idx, i = ix2 0 0 := fun i => funext fun a =>
    match a with
    | ⟨0, _⟩ => Fin.ext (Nat.lt_one_iff.mp (i 0).isLt)
    | ⟨1, _⟩ => Fin.ext (Nat.lt_one_iff.mp (i 1).isLt)
  generalize k0_pay1 (F := Ideal) _ _ _ _ _ _ = w
  exact congrArg w (all _)

end Cert.KernelIdeal.RunValue

end
-- ==== Proof.RefDist.lean ====
/- The reference's first half: the 512 rows, their cumulative squared distances, the bandwidth, and the five-kernel sum of
   every pair of rows. -/
module

public import proofs.«01_k».proof.Proof.Forms
public import proofs.«01_k».proof.Proof.Consts
public import proofs.«01_k».proof.Proof.Gen.ReferenceIdeal.Read
public import Idealize.ShloMosaic.Lib.Pointwise

@[expose] public section

noncomputable section

namespace Cert.ReferenceIdeal.RefValue

open Cert.ReferenceIdeal Cert.ReferenceIdeal.Read Cert.Mmd
open Idealize.ShloMosaic

/-- An argument's contents. -/
abbrev Arg := (⟨S256x256, .f32⟩ : BufTy).Contents (Elt Ideal)

/-- The stacked rows. -/
theorem stacked_eq (x0 x1 : Arg) (p : Fin 512) (k : Fin 256) :
    val_main_v0 (F := Ideal) x0 x1 (ix2 p k) = rows (mat x0) (mat x1) p k := by
  unfold val_main_v0 rows
  pointwise
  split_ifs <;> rfl

/-- The squared difference of two rows at a feature. -/
theorem squared_eq (x0 x1 : Arg) (p q : Fin 512) (k : Fin 256) :
    val_main_v6 (F := Ideal) x0 x1 (ix3 p q k) = sqd (rows (mat x0) (mat x1) p) (rows (mat x0) (mat x1) q) k := by
  have l : val_main_v3 (F := Ideal) x0 x1 (ix3 p q k) = rows (mat x0) (mat x1) p k := by
    rw [val_main_v3_apply, val_main_v1_apply, ← stacked_eq]
    exact congrArg _ (funext fun a => match a with | ⟨0, _⟩ => rfl | ⟨1, _⟩ => rfl)
  have r : val_main_v4 (F := Ideal) x0 x1 (ix3 p q k) = rows (mat x0) (mat x1) q k := by
    rw [val_main_v4_apply, val_main_v2_apply, ← stacked_eq]
    exact congrArg _ (funext fun a => match a with | ⟨0, _⟩ => rfl | ⟨1, _⟩ => rfl)
  rw [val_main_v6_apply, val_main_v5_apply, l, r]
  rfl

/-- A left fold of additions is the start plus the sum. -/
theorem foldl_add {ι : Type*} (l : List ι) (g : ι → EReal) (v : EReal) :
    l.foldl (fun r n => r + g n) v = v + (l.map g).sum := by
  induction l generalizing v with
  | nil => simp
  | cons n l ih => rw [List.foldl_cons, ih, List.map_cons, List.sum_cons, add_assoc]

/-- A window of 256 positions ending at `k`, zero below the array, sums the features up to `k`. -/
theorem window_sum (h : Fin 256 → EReal) (k : Fin 256) :
    ∑ c : Fin 256, (if e : 255 ≤ k.val + c.val then h ⟨k.val + c.val - 255, by omega⟩ else 0)
      = ∑ q, if q ≤ k then h q else 0 := by
  have left : ∀ c : Fin 256, (if e : 255 ≤ k.val + c.val then h ⟨k.val + c.val - 255, by omega⟩ else 0)
      = if 255 ≤ k.val + c.val then h ⟨k.val + c.val - 255, by omega⟩ else 0 := fun c => by split_ifs <;> rfl
  rw [Finset.sum_congr rfl fun c _ => left c, ← Finset.sum_filter, ← Finset.sum_filter]
  refine Finset.sum_bij' (fun c _ => ⟨k.val + c.val - 255, by omega⟩)
    (fun q hq => ⟨255 + q.val - k.val, by
      have : q.val ≤ k.val := (Finset.mem_filter.mp hq).2
      omega⟩) ?_ ?_ ?_ ?_ ?_
  · intro c hc
    exact Finset.mem_filter.mpr ⟨Finset.mem_univ _, show k.val + c.val - 255 ≤ k.val by omega⟩
  · intro q hq
    have : q.val ≤ k.val := (Finset.mem_filter.mp hq).2
    exact Finset.mem_filter.mpr ⟨Finset.mem_univ _, show 255 ≤ k.val + (255 + q.val - k.val) by omega⟩
  · intro c hc
    have : 255 ≤ k.val + c.val := (Finset.mem_filter.mp hc).2
    exact Fin.ext (show 255 + (k.val + c.val - 255) - k.val = c.val by omega)
  · intro q hq
    have : q.val ≤ k.val := (Finset.mem_filter.mp hq).2
    exact Fin.ext (show k.val + (255 + q.val - k.val) - 255 = q.val by omega)
  · intro c hc
    rfl

/-- The cumulative squared distances of the rows. -/
theorem dist_eq (x0 x1 : Arg) (p q : Fin 512) (k : Fin 256) :
    val_main_v7 (F := Ideal) x0 x1 (ix3 p q k) = dist2 (rows (mat x0) (mat x1) p) (rows (mat x0) (mat x1) q) k := by
  have z : ∀ i, val_main_call0_call0_v0 (F := Ideal) i = 0 := fun i => by
    rw [val_main_call0_call0_v0_apply, val_main_call0_call0_cst_apply]
    exact Ideal.ofBits_zero_f32
  have sq : ∀ r, sqd (rows (mat x0) (mat x1) p) (rows (mat x0) (mat x1) q) r
      = val_main_v6 (F := Ideal) x0 x1 (ix3 p q r) := fun r => (squared_eq x0 x1 p q r).symm
  unfold val_main_v7 dist2 Host.reduceWindowAdd
  rw [Ideal.hostReduceWindowAdd_def, z]
  simp only [sq]
  generalize val_main_v6 (F := Ideal) x0 x1 = y
  rw [← window_sum fun r => y (ix3 p q r)]
  unfold Ideal.hostReduceWindowAdd Host.reduceWindow
  refine (foldl_add _ _ _).trans ?_
  rw [zero_add, ← Fin.sum_univ_def]
  let T : (⟨3, ![1, 1, 256]⟩ : Shape).Idx → EReal := fun w =>
    if hin : ∀ a : Fin 3, (![0, 0, 255] : Fin 3 → Nat) a ≤ (ix3 p q k a).val * (![1, 1, 1] : Fin 3 → Nat) a + (w a).val
        ∧ (ix3 p q k a).val * (![1, 1, 1] : Fin 3 → Nat) a + (w a).val - (![0, 0, 255] : Fin 3 → Nat) a
          < S512x512x256.size a
      then y fun a => ⟨(ix3 p q k a).val * (![1, 1, 1] : Fin 3 → Nat) a + (w a).val - (![0, 0, 255] : Fin 3 → Nat) a,
        (hin a).2⟩
      else 0
  have t : ∀ c : Fin 256, T (ix3 0 0 c)
      = if e : 255 ≤ k.val + c.val then y (ix3 p q ⟨k.val + c.val - 255, by omega⟩) else 0 := by
    intro c
    by_cases e : 255 ≤ k.val + c.val
    · have hin : ∀ a : Fin 3, (![0, 0, 255] : Fin 3 → Nat) a
            ≤ (ix3 p q k a).val * (![1, 1, 1] : Fin 3 → Nat) a + (ix3 (0 : Fin 1) (0 : Fin 1) c a).val
          ∧ (ix3 p q k a).val * (![1, 1, 1] : Fin 3 → Nat) a + (ix3 (0 : Fin 1) (0 : Fin 1) c a).val
            - (![0, 0, 255] : Fin 3 → Nat) a < S512x512x256.size a := fun a => match a with
        | ⟨0, _⟩ => ⟨Nat.zero_le _, show p.val * 1 + 0 - 0 < 512 by omega⟩
        | ⟨1, _⟩ => ⟨Nat.zero_le _, show q.val * 1 + 0 - 0 < 512 by omega⟩
        | ⟨2, _⟩ => ⟨show 255 ≤ k.val * 1 + c.val by omega, show k.val * 1 + c.val - 255 < 256 by omega⟩
      rw [dif_pos e]
      refine (dif_pos hin).trans (congrArg y (funext fun a => Fin.ext ?_))
      match a with
      | ⟨0, _⟩ => exact show p.val * 1 + 0 - 0 = p.val by omega
      | ⟨1, _⟩ => exact show q.val * 1 + 0 - 0 = q.val by omega
      | ⟨2, _⟩ => exact show k.val * 1 + c.val - 255 = k.val + c.val - 255 by omega
    · rw [dif_neg e]
      refine dif_neg fun hin => e ?_
      have h2 : 255 ≤ k.val * 1 + c.val := (hin 2).1
      omega
  have u : ∑ n, T ((Shape.rowMajor (⟨3, ![1, 1, 256]⟩ : Shape)).symm n)
      = ∑ c : Fin 256, if e : 255 ≤ k.val + c.val then y (ix3 p q ⟨k.val + c.val - 255, by omega⟩) else 0 := by
    rw [Equiv.sum_comp (Shape.rowMajor (⟨3, ![1, 1, 256]⟩ : Shape)).symm T, sum_idx3]
    simp only [Fin.sum_univ_one]
    exact Finset.sum_congr rfl fun c _ => t c
  refine (Finset.sum_congr rfl fun n _ =>
    (?_ : _ = T ((Shape.rowMajor (⟨3, ![1, 1, 256]⟩ : Shape)).symm n))).trans u
  · by_cases hin : ∀ a : Fin 3, (![0, 0, 255] : Fin 3 → Nat) a ≤ (ix3 p q k a).val * (![1, 1, 1] : Fin 3 → Nat) a
          + ((Shape.rowMajor (⟨3, ![1, 1, 256]⟩ : Shape)).symm n a).val
        ∧ (ix3 p q k a).val * (![1, 1, 1] : Fin 3 → Nat) a
          + ((Shape.rowMajor (⟨3, ![1, 1, 256]⟩ : Shape)).symm n a).val - (![0, 0, 255] : Fin 3 → Nat) a
          < S512x512x256.size a
    · refine (dif_pos hin).trans (Eq.symm ?_)
      dsimp only [T]
      exact dif_pos hin
    · refine (dif_neg hin).trans (Eq.symm ?_)
      dsimp only [T]
      exact dif_neg hin

/-- The bandwidth is the reference's mean distance over four. -/
theorem bandwidth_eq (x0 x1 : Arg) (i : S_.Idx) :
    val_main_v10 (F := Ideal) x0 x1 i = bandwidth (mat x0) (mat x1) := by
  rw [val_main_v10_apply, val_main_v9_apply, val_main_v8_apply, sum_idx3]
  simp only [dist_eq, val_main_cst_apply, val_main_cst_0_apply, val_main_cst_1_apply]
  unfold bandwidth
  rw [← lit_261632, ← lit_4, ← Ideal.ofBits_zero_f32]
  rfl

/-- The five-kernel sum of a pair of rows at a feature. -/
theorem kernels_eq (x0 x1 : Arg) (p q : Fin 512) (k : Fin 256) :
    val_main_v41 (F := Ideal) x0 x1 (ix3 p q k)
      = rker (bandwidth (mat x0) (mat x1)) (rows (mat x0) (mat x1) p) (rows (mat x0) (mat x1) q) k := by
  simp only [val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply, val_main_v12_apply,
    val_main_v11_apply, bandwidth_eq, dist_eq,
    val_main_cst_2_apply, val_main_cst_3_apply, val_main_cst_4_apply, val_main_cst_5_apply, val_main_cst_6_apply,
    val_main_cst_7_apply]
  unfold rker
  rw [← lit_2, ← lit_4, ← lit_8, ← lit_16, EReal.coe_one, ← Ideal.ofBits_one_f32, ← Ideal.ofBits_zero_f32]
  rfl

end Cert.ReferenceIdeal.RefValue

end
-- ==== Proof.RefGather.lean ====
/- The reference's four gathers: what each index table holds, and what a gather reads. -/
module

public import proofs.«01_k».proof.Proof.Forms
public import proofs.«01_k».proof.Proof.Gen.ReferenceIdeal.Read
public import Idealize.ShloMosaic.Lib.Pointwise
public import Idealize.ShloMosaic.Lib.ValueIdxCore

@[expose] public section

noncomputable section

namespace Cert.ReferenceIdeal.RefValue

open Cert.ReferenceIdeal Cert.ReferenceIdeal.Read Cert.Mmd
open Idealize.ShloMosaic

/-- A table's word as a row: clamped into the 512 rows. -/
def rowAt (w : BitVec 32) : Fin 512 := ⟨min w.toInt.toNat 511, by omega⟩

/-- A gather reads, at `(r, k)`, the pair of rows named by the table's row `r`, at feature `k`. -/
theorem gather_eq (y : Vec Ideal S512x512x256 .f32) (t : IVec S256x2 32) (r k : Fin 256) :
    Host.gather gather_S512x512x256_S256x2_S256x256_1_01_n_n_01_1_11256 y t (ix2 r k)
      = y (ix3 (rowAt (t (ix2 r 0))) (rowAt (t (ix2 r 1))) k) := by
  unfold Host.gather
  refine congrArg y (funext fun a => Fin.ext ?_)
  let d := gather_S512x512x256_S256x2_S256x256_1_01_n_n_01_1_11256
  show d.start (ix2 r k) t a + d.batchCoord (ix2 r k) a + d.offCoord (ix2 r k) a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  have nob : ∀ b : Fin 3, b ∉ d.operandBatchingDims := fun b h => by cases h
  rw [GatherDims.batchCoord_eq_zero _ _ _ (nob a)]
  rcases h with rfl | rfl | rfl
  · have m : (0 : Fin 3) ∈ d.startIndexMap := List.mem_cons_self
    rw [GatherDims.offCoord_eq_zero _ _ _ (fun h => ((GatherDims.mem_sKept _ _).mp h).1 List.mem_cons_self)]
    unfold GatherDims.start
    rw [dif_pos m]
    have hsi : d.siIdx (ix2 r k) ⟨List.idxOf (0 : Fin 3) d.startIndexMap, List.idxOf_lt_length_iff.2 m⟩ = ix2 r 0 := by
      funext b
      refine Fin.ext ?_
      match b with
      | ⟨0, _⟩ => rfl
      | ⟨1, _⟩ => rfl
    rw [hsi]
    rfl
  · have m : (1 : Fin 3) ∈ d.startIndexMap := List.mem_cons_of_mem _ List.mem_cons_self
    rw [GatherDims.offCoord_eq_zero _ _ _
      (fun h => ((GatherDims.mem_sKept _ _).mp h).1 (List.mem_cons_of_mem _ List.mem_cons_self))]
    unfold GatherDims.start
    rw [dif_pos m]
    have hsi : d.siIdx (ix2 r k) ⟨List.idxOf (1 : Fin 3) d.startIndexMap, List.idxOf_lt_length_iff.2 m⟩ = ix2 r 1 := by
      funext b
      refine Fin.ext ?_
      match b with
      | ⟨0, _⟩ => rfl
      | ⟨1, _⟩ => rfl
    rw [hsi]
    rfl
  · have m : (2 : Fin 3) ∉ d.startIndexMap := by decide
    have o : (2 : Fin 3) ∈ d.sKept := by decide
    unfold GatherDims.start
    rw [dif_neg m]
    unfold GatherDims.offCoord
    rw [dif_pos o]
    exact (Nat.zero_add _).trans rfl

/-- The first table's columns, as the arrays joined. -/
theorem table1 (r : Fin 256) : val_main_v58 (F := Ideal) (ix2 r 0) = val_main_v56 (F := Ideal) (ix2 r 0)
    ∧ val_main_v58 (F := Ideal) (ix2 r 1) = val_main_v57 (F := Ideal) (ix2 r 0) := by
  unfold val_main_v58
  constructor <;> pointwise

/-- The second table's columns, as the arrays joined. -/
theorem table2 (r : Fin 256) : val_main_v77 (F := Ideal) (ix2 r 0) = val_main_v75 (F := Ideal) (ix2 r 0)
    ∧ val_main_v77 (F := Ideal) (ix2 r 1) = val_main_v76 (F := Ideal) (ix2 r 0) := by
  unfold val_main_v77
  constructor <;> pointwise

/-- The third table's columns, as the arrays joined. -/
theorem table3 (r : Fin 256) : val_main_v95 (F := Ideal) (ix2 r 0) = val_main_v93 (F := Ideal) (ix2 r 0)
    ∧ val_main_v95 (F := Ideal) (ix2 r 1) = val_main_v94 (F := Ideal) (ix2 r 0) := by
  unfold val_main_v95
  constructor <;> pointwise

/-- The fourth table's columns, as the arrays joined. -/
theorem table4 (r : Fin 256) : val_main_v113 (F := Ideal) (ix2 r 0) = val_main_v111 (F := Ideal) (ix2 r 0)
    ∧ val_main_v113 (F := Ideal) (ix2 r 1) = val_main_v112 (F := Ideal) (ix2 r 0) := by
  unfold val_main_v113
  constructor <;> pointwise

/-- The first table's first column names the row of the lower half. -/
theorem col1_fst : ∀ r : Fin 256, rowAt (val_main_v56 (F := Ideal) (ix2 r 0)) = lo r := by
  decide +kernel

/-- The first table's second column names the next row, cyclically, of the lower half. -/
theorem col1_snd : ∀ r : Fin 256, rowAt (val_main_v57 (F := Ideal) (ix2 r 0)) = lo (nxt r) := by
  decide +kernel

/-- The second table's first column names the row of the upper half. -/
theorem col2_fst : ∀ r : Fin 256, rowAt (val_main_v75 (F := Ideal) (ix2 r 0)) = hi r := by
  decide +kernel

/-- The second table's second column names the next row, cyclically, of the upper half. -/
theorem col2_snd : ∀ r : Fin 256, rowAt (val_main_v76 (F := Ideal) (ix2 r 0)) = hi (nxt r) := by
  decide +kernel

/-- The third table's first column names the row of the lower half. -/
theorem col3_fst : ∀ r : Fin 256, rowAt (val_main_v93 (F := Ideal) (ix2 r 0)) = lo r := by
  decide +kernel

/-- The third table's second column names the next row, cyclically, of the upper half. -/
theorem col3_snd : ∀ r : Fin 256, rowAt (val_main_v94 (F := Ideal) (ix2 r 0)) = hi (nxt r) := by
  decide +kernel

/-- The fourth table's first column names the next row, cyclically, of the lower half. -/
theorem col4_fst : ∀ r : Fin 256, rowAt (val_main_v111 (F := Ideal) (ix2 r 0)) = lo (nxt r) := by
  decide +kernel

/-- The fourth table's second column names the row of the upper half. -/
theorem col4_snd : ∀ r : Fin 256, rowAt (val_main_v112 (F := Ideal) (ix2 r 0)) = hi r := by
  decide +kernel

/-- The first gather reads the five-kernel sums at the pair of rows its table names. -/
theorem gather1 (x0 x1 : (⟨S256x256, .f32⟩ : BufTy).Contents (Elt Ideal)) (r k : Fin 256) :
    val_main_v59 (F := Ideal) x0 x1 (ix2 r k) = val_main_v41 (F := Ideal) x0 x1 (ix3 (lo r) (lo (nxt r)) k) := by
  unfold val_main_v59
  rw [gather_eq, (table1 r).1, (table1 r).2, col1_fst, col1_snd]

/-- The second gather reads the five-kernel sums at the pair of rows its table names. -/
theorem gather2 (x0 x1 : (⟨S256x256, .f32⟩ : BufTy).Contents (Elt Ideal)) (r k : Fin 256) :
    val_main_v78 (F := Ideal) x0 x1 (ix2 r k) = val_main_v41 (F := Ideal) x0 x1 (ix3 (hi r) (hi (nxt r)) k) := by
  unfold val_main_v78
  rw [gather_eq, (table2 r).1, (table2 r).2, col2_fst, col2_snd]

/-- The third gather reads the five-kernel sums at the pair of rows its table names. -/
theorem gather3 (x0 x1 : (⟨S256x256, .f32⟩ : BufTy).Contents (Elt Ideal)) (r k : Fin 256) :
    val_main_v96 (F := Ideal) x0 x1 (ix2 r k) = val_main_v41 (F := Ideal) x0 x1 (ix3 (lo r) (hi (nxt r)) k) := by
  unfold val_main_v96
  rw [gather_eq, (table3 r).1, (table3 r).2, col3_fst, col3_snd]

/-- The fourth gather reads the five-kernel sums at the pair of rows its table names. -/
theorem gather4 (x0 x1 : (⟨S256x256, .f32⟩ : BufTy).Contents (Elt Ideal)) (r k : Fin 256) :
    val_main_v114 (F := Ideal) x0 x1 (ix2 r k) = val_main_v41 (F := Ideal) x0 x1 (ix3 (lo (nxt r)) (hi r) k) := by
  unfold val_main_v114
  rw [gather_eq, (table4 r).1, (table4 r).2, col4_fst, col4_snd]

end Cert.ReferenceIdeal.RefValue

end
-- ==== Proof.RefValue.lean ====
/- What the reference computes: its one result as the form `referenceVal` of its two arguments. -/
module

public import proofs.«01_k».proof.Proof.RefDist
public import proofs.«01_k».proof.Proof.RefGather

@[expose] public section

noncomputable section

namespace Cert.ReferenceIdeal.RefValue

open Cert.ReferenceIdeal Cert.ReferenceIdeal.Read Cert.Mmd
open Idealize.ShloMosaic

/-- The first gathered block, summed over its rows. -/
theorem sum1 (x0 x1 : Arg) (k : Fin 256) : val_main_v60 (F := Ideal) x0 x1 (ix1 k)
    = 0 + ∑ i, rker (bandwidth (mat x0) (mat x1)) (rows (mat x0) (mat x1) (lo i)) (rows (mat x0) (mat x1) (lo (nxt i))) k := by
  have e : ∀ r : Fin 256, idx_main_v60 (ix1 k) r = ix2 r k := fun r =>
    funext fun a => match a with | ⟨0, _⟩ => rfl | ⟨1, _⟩ => rfl
  rw [val_main_v60_apply, val_main_cst_13_apply]
  simp only [e, gather1, kernels_eq]
  exact congrArg (· + _) Ideal.ofBits_zero_f32

/-- The second gathered block, summed over its rows. -/
theorem sum2 (x0 x1 : Arg) (k : Fin 256) : val_main_v79 (F := Ideal) x0 x1 (ix1 k)
    = 0 + ∑ i, rker (bandwidth (mat x0) (mat x1)) (rows (mat x0) (mat x1) (hi i)) (rows (mat x0) (mat x1) (hi (nxt i))) k := by
  have e : ∀ r : Fin 256, idx_main_v79 (ix1 k) r = ix2 r k := fun r =>
    funext fun a => match a with | ⟨0, _⟩ => rfl | ⟨1, _⟩ => rfl
  rw [val_main_v79_apply, val_main_cst_20_apply]
  simp only [e, gather2, kernels_eq]
  exact congrArg (· + _) Ideal.ofBits_zero_f32

/-- The third gathered block, summed over its rows. -/
theorem sum3 (x0 x1 : Arg) (k : Fin 256) : val_main_v97 (F := Ideal) x0 x1 (ix1 k)
    = 0 + ∑ i, rker (bandwidth (mat x0) (mat x1)) (rows (mat x0) (mat x1) (lo i)) (rows (mat x0) (mat x1) (hi (nxt i))) k := by
  have e : ∀ r : Fin 256, idx_main_v97 (ix1 k) r = ix2 r k := fun r =>
    funext fun a => match a with | ⟨0, _⟩ => rfl | ⟨1, _⟩ => rfl
  rw [val_main_v97_apply, val_main_cst_26_apply]
  simp only [e, gather3, kernels_eq]
  exact congrArg (· + _) Ideal.ofBits_zero_f32

/-- The fourth gathered block, summed over its rows. -/
theorem sum4 (x0 x1 : Arg) (k : Fin 256) : val_main_v115 (F := Ideal) x0 x1 (ix1 k)
    = 0 + ∑ i, rker (bandwidth (mat x0) (mat x1)) (rows (mat x0) (mat x1) (lo (nxt i))) (rows (mat x0) (mat x1) (hi i)) k := by
  have e : ∀ r : Fin 256, idx_main_v115 (ix1 k) r = ix2 r k := fun r =>
    funext fun a => match a with | ⟨0, _⟩ => rfl | ⟨1, _⟩ => rfl
  rw [val_main_v115_apply, val_main_cst_32_apply]
  simp only [e, gather4, kernels_eq]
  exact congrArg (· + _) Ideal.ofBits_zero_f32

/-- The reference's result is `referenceVal` of its arguments. -/
theorem result_eq (x0 x1 : Arg) :
    val_main_v120 (F := Ideal) x0 x1 = fun _ => referenceVal (mat x0) (mat x1) := by
  funext i
  rw [val_main_v120_apply, val_main_v119_apply, sum_idx1]
  simp only [val_main_v118_apply, val_main_v117_apply, val_main_v116_apply, val_main_v98_apply, val_main_v80_apply,
    sum1, sum2, sum3, sum4, val_main_cst_33_apply, val_main_cst_34_apply, val_main_cst_35_apply]
  unfold referenceVal rcomb
  rw [← lit_256, ← Ideal.ofBits_zero_f32]
  rfl

end Cert.ReferenceIdeal.RefValue

end
-- ==== Proof.MathBase.lean ====
/- Facts on extended reals the equation uses: sums of reals, sums that hold an infinity, and the last steps of the two
   programs on real entries. -/
module

public import proofs.«01_k».proof.Proof.Forms
public import Mathlib.Tactic.FieldSimp
public import Mathlib.Tactic.Linarith
public import Mathlib.Algebra.BigOperators.Field
public import Mathlib.Order.Interval.Finset.Fin

@[expose] public section

noncomputable section

namespace Cert.Mmd

open Idealize.ShloMosaic

/-- A finite sum of reals, as extended reals. -/
theorem coe_sum {ι : Type*} (a : Finset ι) (f : ι → ℝ) : ((∑ i ∈ a, f i : ℝ) : EReal) = ∑ i ∈ a, (f i : EReal) := by
  classical
  induction a using Finset.induction_on with
  | empty => simp
  | insert i a hi ih => rw [Finset.sum_insert hi, Finset.sum_insert hi, EReal.coe_add, ih]

/-- Division of reals by a nonzero real. -/
theorem div_real (x : ℝ) {y : ℝ} (h : y ≠ 0) : Ideal.div (x : EReal) (y : EReal) = ((x / y : ℝ) : EReal) := by
  rw [Ideal.div_coe h, ← EReal.coe_mul, mul_one_div]

/-- A sum with a term at `⊥` is `⊥`. -/
theorem sum_bot {ι : Type*} (a : Finset ι) (f : ι → EReal) {i : ι} (hi : i ∈ a) (h : f i = ⊥) :
    ∑ j ∈ a, f j = ⊥ := by
  classical
  rw [← Finset.add_sum_erase a f hi, h, EReal.bot_add]

/-- A sum that is neither infinity has no infinite term. -/
theorem finite_of_sum {ι : Type*} (a : Finset ι) (f : ι → EReal) (hb : ∑ j ∈ a, f j ≠ ⊥) (ht : ∑ j ∈ a, f j ≠ ⊤) :
    ∀ i ∈ a, f i ≠ ⊥ ∧ f i ≠ ⊤ := by
  classical
  intro i hi
  have nb : f i ≠ ⊥ := fun h => hb (sum_bot a f hi h)
  refine ⟨nb, fun h => ?_⟩
  rw [← Finset.add_sum_erase a f hi, h] at hb ht
  exact ht (EReal.top_add_of_ne_bot fun h' => hb (by rw [h', EReal.add_bot]))

/-- A square is not negative. -/
theorem sq_nonneg' (x : EReal) : 0 ≤ x * x := by
  induction x with
  | bot => rw [EReal.bot_mul_bot]; exact le_top
  | top => rw [EReal.top_mul_top]; exact le_top
  | coe r => rw [← EReal.coe_mul]; exact_mod_cast mul_self_nonneg r

/-- A cumulative squared distance is not negative. -/
theorem dist2_nonneg (u v : Fin 256 → EReal) (k : Fin 256) : 0 ≤ dist2 u v k :=
  Finset.sum_nonneg fun q _ => by split_ifs; exacts [sq_nonneg' _, le_rfl]

/-- The last steps of the two programs agree on real entries. -/
theorem comb_real (A B C D : Fin 256 → Fin 256 → ℝ) :
    kcomb (fun i k => (A i k : EReal)) (fun i k => (B i k : EReal)) (fun i k => (C i k : EReal))
        (fun i k => (D i k : EReal))
      = rcomb (fun i k => (A i k : EReal)) (fun i k => (B i k : EReal)) (fun i k => (C i k : EReal))
        (fun i k => (D i k : EReal)) := by
  unfold kcomb rcomb
  simp only [zero_add, ← coe_sum, ← EReal.coe_add, ← EReal.coe_sub, ← EReal.coe_mul,
    div_real _ (show (256 : ℝ) ≠ 0 by norm_num)]
  congr 1
  rw [Finset.sum_comm, ← Finset.sum_div, div_div, div_eq_mul_inv]
  norm_num [Finset.sum_add_distrib, Finset.sum_sub_distrib]

/-- The kernel's last step on one repeated real is zero. -/
theorem kcomb_const (r : ℝ) : kcomb (fun _ _ => (r : EReal)) (fun _ _ => r) (fun _ _ => r) (fun _ _ => r) = 0 := by
  unfold kcomb
  simp only [← coe_sum, ← EReal.coe_add, ← EReal.coe_sub, ← EReal.coe_mul]
  norm_num

/-- The reference's last step on one repeated real is zero. -/
theorem rcomb_const (r : ℝ) : rcomb (fun _ _ => (r : EReal)) (fun _ _ => r) (fun _ _ => r) (fun _ _ => r) = 0 :=
  (comb_real (fun _ _ => r) (fun _ _ => r) (fun _ _ => r) (fun _ _ => r)).symm.trans (kcomb_const r)

end Cert.Mmd

end
-- ==== Proof.MathInf.lean ====
/- The equation when some entry is infinite: both programs give zero. -/
module

public import proofs.«01_k».proof.Proof.MathBase

@[expose] public section

noncomputable section

namespace Cert.Mmd

open Idealize.ShloMosaic

/-- Some entry of the array is an infinity. -/
def HasInf (s : Mat) : Prop := ∃ i k, s i k = ⊥ ∨ s i k = ⊤

/-- A column with an infinite entry has an infinite sum. -/
theorem colSum_inf {s t : Mat} (h : HasInf s ∨ HasInf t) : ∃ k, colSum s t k = ⊥ ∨ colSum s t k = ⊤ := by
  by_contra hc
  push Not at hc
  have fin : ∀ k, (∑ i, s i k ≠ ⊥ ∧ ∑ i, s i k ≠ ⊤) ∧ (∑ i, t i k ≠ ⊥ ∧ ∑ i, t i k ≠ ⊤) := by
    intro k
    have h2 := finite_of_sum (Finset.univ : Finset (Fin 2)) ![∑ i, s i k, ∑ i, t i k]
      (by rw [Fin.sum_univ_two]; exact (hc k).1) (by rw [Fin.sum_univ_two]; exact (hc k).2)
    exact ⟨h2 0 (Finset.mem_univ _), h2 1 (Finset.mem_univ _)⟩
  rcases h with ⟨i, k, h⟩ | ⟨i, k, h⟩
  · have := finite_of_sum _ _ (fin k).1.1 (fin k).1.2 i (Finset.mem_univ i)
    exact h.elim this.1 this.2
  · have := finite_of_sum _ _ (fin k).2.1 (fin k).2.2 i (Finset.mem_univ i)
    exact h.elim this.1 this.2

/-- The weighted total of an array pair with an infinite entry is `⊥`. -/
theorem band_inf {s t : Mat} (h : HasInf s ∨ HasInf t) : band s t = ⊥ := by
  obtain ⟨k, hk⟩ := colSum_inf h
  refine sum_bot _ _ (Finset.mem_univ k) ?_
  have w : (0 : ℝ) < 256 - (k.val : ℝ) := by
    have : (k.val : ℝ) < 256 := by exact_mod_cast k.isLt
    linarith
  have sq : ((2 : ℝ) : EReal) * colSum s t k * colSum s t k = ⊤ := by
    rcases hk with hk | hk <;> rw [hk]
    · rw [EReal.coe_mul_bot_of_pos (by norm_num), EReal.bot_mul_bot]
    · rw [EReal.coe_mul_top_of_pos (by norm_num), EReal.top_mul_top]
  rw [colPair, sq, EReal.sub_top, EReal.coe_mul_bot_of_pos w]

/-- The kernel's value is zero when some entry is infinite. -/
theorem kernelVal_inf {s t : Mat} (h : HasInf s ∨ HasInf t) : kernelVal s t = 0 := by
  have g : coef s t = 0 := by
    unfold coef
    rw [band_inf h, Ideal.div_coe (by norm_num), Ideal.div_coe (by norm_num),
      EReal.bot_mul_coe_of_pos (by norm_num), EReal.bot_mul_coe_of_pos (by norm_num),
      EReal.bot_mul_coe_of_pos (by norm_num), Ideal.div, if_neg (by simp), EReal.inv_bot, mul_zero]
  have k5 : ∀ u v, kker (coef s t) u v = fun _ => ((5 : ℝ) : EReal) := by
    intro u v
    funext k
    have e : Ideal.exp2 0 = ((1 : ℝ) : EReal) := by
      show ((Real.rpow 2 0 : ℝ) : EReal) = _
      rw [show Real.rpow 2 0 = 1 from Real.rpow_zero 2]
    rw [kker, g, mul_zero, e, five]
    simp only [← EReal.coe_mul, ← EReal.coe_add]
    norm_num
  unfold kernelVal
  simp only [k5]
  exact kcomb_const 5

/-- The bandwidth is `⊤` when some row has an infinite entry. -/
theorem bandwidth_inf {s t : Mat} (h : ∃ p k, rows s t p k = ⊥ ∨ rows s t p k = ⊤) : bandwidth s t = ⊤ := by
  obtain ⟨p, k, hp⟩ := h
  have own : dist2 (rows s t p) (rows s t p) k = ⊤ := by
    have term : (if k ≤ k then sqd (rows s t p) (rows s t p) k else 0) = ⊤ := by
      rw [if_pos le_rfl, sqd]
      rcases hp with hp | hp <;> rw [hp] <;> rfl
    refine top_le_iff.mp (term ▸ Finset.single_le_sum (f := fun q => if q ≤ k then sqd (rows s t p) (rows s t p) q else 0)
      (fun q _ => ?_) (Finset.mem_univ k))
    show 0 ≤ ite _ _ _
    split_ifs
    exacts [sq_nonneg' _, le_rfl]
  have total : ∑ p, ∑ q, ∑ k, dist2 (rows s t p) (rows s t q) k = ⊤ := by
    refine top_le_iff.mp (own ▸ ?_)
    refine le_trans ?_ (Finset.single_le_sum (f := fun p => ∑ q, ∑ k, dist2 (rows s t p) (rows s t q) k)
      (fun p _ => Finset.sum_nonneg fun q _ => Finset.sum_nonneg fun k _ => dist2_nonneg _ _ _) (Finset.mem_univ p))
    refine le_trans ?_ (Finset.single_le_sum (f := fun q => ∑ k, dist2 (rows s t p) (rows s t q) k)
      (fun q _ => Finset.sum_nonneg fun k _ => dist2_nonneg _ _ _) (Finset.mem_univ p))
    exact Finset.single_le_sum (f := fun k => dist2 (rows s t p) (rows s t p) k)
      (fun k _ => dist2_nonneg _ _ _) (Finset.mem_univ k)
  unfold bandwidth
  rw [total, zero_add, Ideal.div_coe (by norm_num), Ideal.div_coe (by norm_num),
    EReal.top_mul_coe_of_pos (by norm_num), EReal.top_mul_coe_of_pos (by norm_num)]

/-- The reference's value is zero when some entry is infinite. -/
theorem referenceVal_inf {s t : Mat} (h : HasInf s ∨ HasInf t) : referenceVal s t = 0 := by
  have b : bandwidth s t = ⊤ := by
    refine bandwidth_inf ?_
    rcases h with ⟨i, k, h⟩ | ⟨i, k, h⟩
    · refine ⟨lo i, k, ?_⟩
      rwa [rows, dif_pos (show (lo i).val < 256 from i.isLt)]
    · refine ⟨hi i, k, ?_⟩
      rw [rows, dif_neg (show ¬ (hi i).val < 256 by simp [hi])]
      rwa [show (⟨(hi i).val - 256, by have := i.isLt; simp [hi]⟩ : Fin 256) = i from Fin.ext (by simp [hi])]
  have one : ∀ (x : EReal) (r : ℝ), 0 < r → Ideal.exp (Ideal.div x (⊤ * (r : EReal))) = ((1 : ℝ) : EReal) := by
    intro x r hr
    rw [EReal.top_mul_coe_of_pos hr, Ideal.div, if_neg (by simp), EReal.inv_top, mul_zero]
    show ((Real.exp 0 : ℝ) : EReal) = _
    rw [Real.exp_zero]
  have k5 : ∀ u v, rker (bandwidth s t) u v = fun _ => ((5 : ℝ) : EReal) := by
    intro u v
    funext k
    rw [rker, b, one _ 1 (by norm_num), one _ 2 (by norm_num), one _ 4 (by norm_num), one _ 8 (by norm_num),
      one _ 16 (by norm_num), zero_add]
    simp only [← EReal.coe_add]
    norm_num
  unfold referenceVal
  simp only [k5]
  exact rcomb_const 5

end Cert.Mmd

end
-- ==== Proof.MathReal.lean ====
/- The equation when every entry is a real: the two bandwidths agree, so do the kernels, so do the values. -/
module

public import proofs.«01_k».proof.Proof.MathBase

@[expose] public section

noncomputable section

namespace Cert.Mmd

open Idealize.ShloMosaic

/-- The cumulative squared distance of two real rows. -/
def dR (u v : Fin 256 → ℝ) (k : Fin 256) : ℝ := ∑ q, if q ≤ k then (u q - v q) * (u q - v q) else 0

/-- The cumulative squared distance of real rows is real. -/
theorem dist2_real (u v : Fin 256 → ℝ) (k : Fin 256) :
    dist2 (fun q => (u q : EReal)) (fun q => (v q : EReal)) k = (dR u v k : EReal) := by
  unfold dist2 dR sqd
  rw [coe_sum]
  refine Finset.sum_congr rfl fun q _ => ?_
  split_ifs
  · rw [← EReal.coe_sub, ← EReal.coe_mul]
  · rfl

/-- The kernel's prefix sum of real rows is the cumulative squared distance. -/
theorem cum_real (u v : Fin 256 → ℝ) (k : Fin 256) :
    cum (fun q => (u q : EReal)) (fun q => (v q : EReal)) k = (dR u v k : EReal) := by
  have hi : ∑ q, sqd (fun q => (u q : EReal)) (fun q => (v q : EReal)) q * tri q k = (dR u v k : EReal) := by
    rw [← dist2_real]
    refine Finset.sum_congr rfl fun q _ => ?_
    unfold tri
    split_ifs
    · rw [mul_one]
    · rw [mul_zero]
  have low : ∑ q, (sqd (fun q => (u q : EReal)) (fun q => (v q : EReal)) q
      - sqd (fun q => (u q : EReal)) (fun q => (v q : EReal)) q) * tri q k = 0 := by
    refine Finset.sum_eq_zero fun q _ => ?_
    rw [sqd, ← EReal.coe_sub, ← EReal.coe_mul, ← EReal.coe_sub, sub_self, EReal.coe_zero, zero_mul]
  rw [cum, hi, low, zero_add, zero_add, add_zero]

/-- The cumulative distance is not negative. -/
theorem dR_nonneg (u v : Fin 256 → ℝ) (k : Fin 256) : 0 ≤ dR u v k :=
  Finset.sum_nonneg fun q _ => by split_ifs; exacts [mul_self_nonneg _, le_rfl]

/-- The 512 real rows. -/
def rowsR (s t : Fin 256 → Fin 256 → ℝ) (p : Fin 512) : Fin 256 → ℝ :=
  if h : p.val < 256 then s ⟨p.val, h⟩ else t ⟨p.val - 256, by omega⟩

/-- The rows of real arrays are real. -/
theorem rows_real (s t : Fin 256 → Fin 256 → ℝ) (p : Fin 512) :
    rows (fun i k => (s i k : EReal)) (fun i k => (t i k : EReal)) p = fun q => (rowsR s t p q : EReal) := by
  unfold rows rowsR
  split_ifs <;> rfl

/-- Row `i` of the source half is the source's row. -/
theorem rowsR_lo (s t : Fin 256 → Fin 256 → ℝ) (i : Fin 256) : rowsR s t (lo i) = s i := by
  rw [rowsR, dif_pos (show (lo i).val < 256 from i.isLt)]
  rfl

/-- Row `i` of the target half is the target's row. -/
theorem rowsR_hi (s t : Fin 256 → Fin 256 → ℝ) (i : Fin 256) : rowsR s t (hi i) = t i := by
  rw [rowsR, dif_neg (show ¬ (hi i).val < 256 by simp [hi])]
  exact congrArg t (Fin.ext (by simp [hi]))

/-- A sum over the 512 rows is the source's sum and the target's. -/
theorem sum_rows (f : Fin 512 → ℝ) : ∑ p, f p = ∑ i, f (lo i) + ∑ i, f (hi i) := by
  refine (Fin.sum_univ_add (a := 256) (b := 256) f).trans (congrArg₂ (· + ·) rfl ?_)
  refine Finset.sum_congr rfl fun i _ => congrArg f (Fin.ext ?_)
  show 256 + i.val = i.val + 256
  omega

/-- All pairwise squared differences of 512 numbers, by the two moments. -/
theorem sum_pairs (a : Fin 512 → ℝ) :
    ∑ p, ∑ q, (a p - a q) * (a p - a q) = 1024 * ∑ p, a p * a p - 2 * (∑ p, a p) * ∑ p, a p := by
  have row : ∀ p, ∑ q, (a p - a q) * (a p - a q)
      = 512 * (a p * a p) - 2 * (∑ q, a q) * a p + ∑ q, a q * a q := by
    intro p
    rw [Finset.sum_congr rfl fun q _ => show (a p - a q) * (a p - a q) = a p * a p - 2 * a p * a q + a q * a q by ring,
      Finset.sum_add_distrib, Finset.sum_sub_distrib, Finset.sum_const, Finset.card_univ, Fintype.card_fin,
      nsmul_eq_mul, ← Finset.mul_sum]
    push_cast
    ring
  rw [Finset.sum_congr rfl fun p _ => row p, Finset.sum_add_distrib, Finset.sum_sub_distrib, ← Finset.mul_sum,
    ← Finset.mul_sum, Finset.sum_const, Finset.card_univ, Fintype.card_fin, nsmul_eq_mul]
  push_cast
  ring

/-- Summing prefix sums counts entry `q` once for each end from `q` on. -/
theorem sum_prefix (f : Fin 256 → ℝ) :
    ∑ k : Fin 256, ∑ q, (if q ≤ k then f q else 0) = ∑ q : Fin 256, (256 - (q.val : ℝ)) * f q := by
  rw [Finset.sum_comm]
  refine Finset.sum_congr rfl fun q _ => ?_
  rw [← Finset.sum_filter, Finset.sum_const, nsmul_eq_mul,
    show Finset.univ.filter (fun k : Fin 256 => q ≤ k) = Finset.Ici q from by ext; simp, Fin.card_Ici,
    Nat.cast_sub q.isLt.le]
  norm_num

/-- The weighted total of real arrays. -/
def bandR (s t : Fin 256 → Fin 256 → ℝ) : ℝ :=
  ∑ k : Fin 256, (256 - (k.val : ℝ)) * (1024 * (∑ i, s i k * s i k + ∑ i, t i k * t i k)
    - 2 * (∑ i, s i k + ∑ i, t i k) * (∑ i, s i k + ∑ i, t i k))

/-- The kernel's weighted total of real arrays is real. -/
theorem band_real (s t : Fin 256 → Fin 256 → ℝ) :
    band (fun i k => (s i k : EReal)) (fun i k => (t i k : EReal)) = (bandR s t : EReal) := by
  unfold band bandR colPair colSq colSum
  simp only [← coe_sum, ← EReal.coe_add, ← EReal.coe_sub, ← EReal.coe_mul]

/-- All cumulative distances summed are the weighted total. -/
theorem total_eq (s t : Fin 256 → Fin 256 → ℝ) :
    ∑ p, ∑ q, ∑ k, dR (rowsR s t p) (rowsR s t q) k = bandR s t := by
  unfold dR bandR
  simp only [sum_prefix]
  rw [Finset.sum_congr rfl fun p _ => Finset.sum_comm, Finset.sum_comm]
  refine Finset.sum_congr rfl fun k _ => ?_
  simp only [← Finset.mul_sum]
  rw [sum_pairs fun p => rowsR s t p k, sum_rows, sum_rows]
  simp only [rowsR_lo, rowsR_hi]

/-- The bandwidth of real arrays. -/
def bwR (s t : Fin 256 → Fin 256 → ℝ) : ℝ := bandR s t / 261632 / 4

/-- The reference's bandwidth of real arrays is real. -/
theorem bandwidth_real (s t : Fin 256 → Fin 256 → ℝ) :
    bandwidth (fun i k => (s i k : EReal)) (fun i k => (t i k : EReal)) = (bwR s t : EReal) := by
  unfold bandwidth bwR
  simp only [rows_real, dist2_real, ← coe_sum]
  rw [total_eq, zero_add, div_real _ (by norm_num), div_real _ (by norm_num)]

/-- The kernel's coefficient of real arrays, from the same bandwidth. -/
theorem coef_real (s t : Fin 256 → Fin 256 → ℝ) :
    coef (fun i k => (s i k : EReal)) (fun i k => (t i k : EReal))
      = Ideal.div ((-((Real.log 2)⁻¹) : ℝ) : EReal) ((bwR s t * 16 : ℝ) : EReal) := by
  unfold coef bwR
  rw [band_real, div_real _ (by norm_num), div_real _ (by norm_num), ← EReal.coe_mul]

/-- With a zero bandwidth every pair of rows is at distance zero. -/
theorem dR_zero (s t : Fin 256 → Fin 256 → ℝ) (h : bwR s t = 0) (p q : Fin 512) (k : Fin 256) :
    dR (rowsR s t p) (rowsR s t q) k = 0 := by
  have z : bandR s t = 0 := by
    unfold bwR at h
    linarith
  rw [← total_eq] at z
  have n1 : ∀ p q, 0 ≤ ∑ k, dR (rowsR s t p) (rowsR s t q) k := fun p q => Finset.sum_nonneg fun k _ => dR_nonneg _ _ _
  have z1 := (Finset.sum_eq_zero_iff_of_nonneg fun p _ => Finset.sum_nonneg fun q _ => n1 p q).mp z p (Finset.mem_univ _)
  have z2 := (Finset.sum_eq_zero_iff_of_nonneg fun q _ => n1 p q).mp z1 q (Finset.mem_univ _)
  exact (Finset.sum_eq_zero_iff_of_nonneg fun k _ => dR_nonneg _ _ _).mp z2 k (Finset.mem_univ _)

/-- The five-kernel sum at distance `l` and bandwidth `b`. -/
def kerR (b l : ℝ) : ℝ :=
  (((Real.exp (-l / (b * 1)) + Real.exp (-l / (b * 2))) + Real.exp (-l / (b * 4))) + Real.exp (-l / (b * 8)))
    + Real.exp (-l / (b * 16))

/-- The reference's five-kernel sum of real rows at a nonzero bandwidth. -/
theorem rker_real {b : ℝ} (hb : b ≠ 0) (u v : Fin 256 → ℝ) (k : Fin 256) :
    rker (b : EReal) (fun q => (u q : EReal)) (fun q => (v q : EReal)) k = (kerR b (dR u v k) : EReal) := by
  have e : ∀ r : ℝ, r ≠ 0 → Ideal.exp (Ideal.div (-(dR u v k : EReal)) ((b : EReal) * (r : EReal)))
      = (Real.exp (-dR u v k / (b * r)) : EReal) := by
    intro r hr
    rw [← EReal.coe_neg, ← EReal.coe_mul, div_real _ (mul_ne_zero hb hr)]
    rfl
  rw [rker, dist2_real, e 1 (by norm_num), e 2 (by norm_num), e 4 (by norm_num), e 8 (by norm_num),
    e 16 (by norm_num), zero_add]
  simp only [← EReal.coe_add]
  rfl

/-- The kernel's five-kernel sum of real rows at a nonzero bandwidth: the powers of one exponential. -/
theorem kker_real {b : ℝ} (hb : b ≠ 0) (u v : Fin 256 → ℝ) (k : Fin 256) :
    kker (Ideal.div ((-((Real.log 2)⁻¹) : ℝ) : EReal) ((b * 16 : ℝ) : EReal)) (fun q => (u q : EReal))
      (fun q => (v q : EReal)) k = (kerR b (dR u v k) : EReal) := by
  have hl : Real.log 2 ≠ 0 := (Real.log_pos (by norm_num)).ne'
  have z : Ideal.exp2 ((dR u v k * (-((Real.log 2)⁻¹) / (b * 16)) : ℝ) : EReal)
      = (Real.exp (-dR u v k / (b * 16)) : EReal) := by
    show ((Real.rpow 2 _ : ℝ) : EReal) = _
    rw [show Real.rpow 2 (dR u v k * (-((Real.log 2)⁻¹) / (b * 16)))
      = Real.exp (-dR u v k / (b * 16)) from (Real.rpow_def_of_pos (by norm_num) _).trans (by congr 1; field_simp)]
  rw [kker, cum_real, div_real _ (mul_ne_zero hb (by norm_num)), ← EReal.coe_mul, z, five]
  simp only [← EReal.coe_mul, ← EReal.coe_add, ← Real.exp_add]
  refine congrArg _ ?_
  unfold kerR
  rw [show ∀ x : ℝ, -x / (b * 16) + -x / (b * 16) = -x / (b * 8) from fun x => by field_simp; ring,
    show ∀ x : ℝ, -x / (b * 8) + -x / (b * 8) = -x / (b * 4) from fun x => by field_simp; ring,
    show ∀ x : ℝ, -x / (b * 4) + -x / (b * 4) = -x / (b * 2) from fun x => by field_simp; ring,
    show ∀ x : ℝ, -x / (b * 2) + -x / (b * 2) = -x / (b * 1) from fun x => by field_simp; ring]
  ring

/-- At a zero bandwidth and distance zero the kernel's five-kernel sum is five. -/
theorem kker_zero (u v : Fin 256 → ℝ) (k : Fin 256) (h : dR u v k = 0) :
    kker (Ideal.div ((-((Real.log 2)⁻¹) : ℝ) : EReal) ((0 : ℝ) : EReal)) (fun q => (u q : EReal))
      (fun q => (v q : EReal)) k = ((5 : ℝ) : EReal) := by
  have e : Ideal.exp2 0 = ((1 : ℝ) : EReal) := by
    show ((Real.rpow 2 0 : ℝ) : EReal) = _
    rw [show Real.rpow 2 0 = 1 from Real.rpow_zero 2]
  rw [kker, cum_real, h, EReal.coe_zero, zero_mul, e, five]
  simp only [← EReal.coe_mul, ← EReal.coe_add]
  norm_num

/-- At a zero bandwidth and distance zero the reference's five-kernel sum is zero: every quotient is `0 / 0`. -/
theorem rker_zero (u v : Fin 256 → ℝ) (k : Fin 256) (h : dR u v k = 0) :
    rker ((0 : ℝ) : EReal) (fun q => (u q : EReal)) (fun q => (v q : EReal)) k = ((0 : ℝ) : EReal) := by
  have e : Ideal.exp (Ideal.div 0 0) = 0 := by
    rw [Ideal.div, if_pos rfl, if_neg (lt_irrefl _)]
    rfl
  rw [rker, dist2_real, h, EReal.coe_zero]
  simp only [neg_zero, zero_mul, e, add_zero]

/-- On real arrays the two values agree. -/
theorem value_real (s t : Fin 256 → Fin 256 → ℝ) :
    kernelVal (fun i k => (s i k : EReal)) (fun i k => (t i k : EReal))
      = referenceVal (fun i k => (s i k : EReal)) (fun i k => (t i k : EReal)) := by
  unfold kernelVal referenceVal
  rw [coef_real, bandwidth_real]
  simp only [rows_real, rowsR_lo, rowsR_hi]
  by_cases hb : bwR s t = 0
  · have zero := fun p q k => dR_zero s t hb p q k
    have ll : ∀ i j k, dR (s i) (s j) k = 0 := fun i j k => by simpa only [rowsR_lo] using zero (lo i) (lo j) k
    have hh : ∀ i j k, dR (t i) (t j) k = 0 := fun i j k => by simpa only [rowsR_hi] using zero (hi i) (hi j) k
    have lh : ∀ i j k, dR (s i) (t j) k = 0 := fun i j k => by
      simpa only [rowsR_lo, rowsR_hi] using zero (lo i) (hi j) k
    rw [hb, zero_mul]
    refine Eq.trans ?_ (Eq.symm (Eq.trans ?_ (rcomb_const 0)))
    · refine Eq.trans ?_ (kcomb_const 5)
      congr 1 <;> funext i k
      exacts [kker_zero _ _ _ (ll _ _ _), kker_zero _ _ _ (hh _ _ _), kker_zero _ _ _ (lh _ _ _),
        kker_zero _ _ _ (lh _ _ _)]
    · congr 1 <;> funext i k
      exacts [rker_zero _ _ _ (ll _ _ _), rker_zero _ _ _ (hh _ _ _), rker_zero _ _ _ (lh _ _ _),
        rker_zero _ _ _ (lh _ _ _)]
  · have kr := fun u v => funext fun k => kker_real hb u v k
    have rr := fun u v => funext fun k => rker_real hb u v k
    simp only [kr, rr]
    exact comb_real _ _ _ _

end Cert.Mmd

end
-- ==== Proof.Equation.lean ====
/- The equation: the kernel's closed form is the reference's, for all arrays of extended reals. -/
module

public import proofs.«01_k».proof.Proof.MathInf
public import proofs.«01_k».proof.Proof.MathReal

@[expose] public section

namespace Cert.Mmd

/-- The two closed forms are equal for every pair of arrays, infinite entries included. -/
theorem kernelVal_eq (s t : Mat) : kernelVal s t = referenceVal s t := by
  by_cases h : HasInf s ∨ HasInf t
  · rw [kernelVal_inf h, referenceVal_inf h]
  · have real : ∀ x : Mat, ¬ HasInf x → x = fun i k => ((x i k).toReal : EReal) := fun x hx => by
      funext i k
      exact (EReal.coe_toReal (fun e => hx ⟨i, k, .inr e⟩) (fun e => hx ⟨i, k, .inl e⟩)).symm
    rw [real s fun hs => h (.inl hs), real t fun ht => h (.inr ht)]
    exact value_real _ _

end Cert.Mmd
-- ==== Proof.lean ====
/- The proof of the certificate: the three frames, the one named constant, and the equality of the kernel's and the
   reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.KernelValue
public import proofs.«01_k».proof.Proof.RefValue
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's run: its result is the kernel's form of the arguments as launched, and the arguments are unchanged. -/
theorem referenceRun (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v120)
          = (fun _ => Cert.Mmd.kernelVal
              (Cert.Mmd.mat (m ((c.tc : Thread Cert.ReferenceIdeal.nD Cert.ReferenceIdeal.τ).loc Cert.ReferenceIdeal.main_arg0)))
              (Cert.Mmd.mat (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun _ h c => ⟨((h c).1.trans (Cert.ReferenceIdeal.Read.val_main_v120_eq _)).trans
      ((Cert.ReferenceIdeal.RefValue.result_eq _ _).trans (funext fun _ => (Cert.Mmd.kernelVal_eq _ _).symm)), (h c).2⟩)
    (Cert.ReferenceIdeal.Value.run m ρ)

/-- The reference terminates with its arguments unchanged and every counter at zero. -/
theorem referenceFrame : Cert.quiescent_ReferenceIdeal := fun m ρ _ =>
  (θ_run Cert.ReferenceIdeal.defs _ _).mono
    (fun r h => ⟨fun c => (h c).2, sem_eq_zero_of_no_sems (by decide) r.2⟩) (referenceRun m ρ)

/-- Over the extended reals, from equal arguments, the kernel and the reference end with equal results. -/
theorem equal : Cert.algebraic_KernelIdeal_ReferenceIdeal := fun m ρ m' ρ' _ agree =>
  ⟨fun c => fun _ => Cert.Mmd.kernelVal
      (Cert.Mmd.mat (m ((c.tc : Thread Cert.KernelIdeal.nD Cert.KernelIdeal.τ).loc Cert.KernelIdeal.main_arg0)))
      (Cert.Mmd.mat (m ((c.tc : Thread Cert.KernelIdeal.nD Cert.KernelIdeal.τ).loc Cert.KernelIdeal.main_arg1))),
    (θ_run Cert.KernelIdeal.defs _ _).mono
      (fun _ h c => ⟨(h c).1.trans (Cert.KernelIdeal.RunValue.result_eq _ _), (h c).2⟩)
      (Cert.KernelIdeal.RunValue.run m ρ),
    (θ_run Cert.ReferenceIdeal.defs _ _).mono
      (fun _ h c => ⟨(h c).1.trans (by rw [(agree c).1, (agree c).2]; rfl), (h c).2⟩)
      (referenceRun m' ρ')⟩

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, referenceFrame,
    IdealRules.named_const.statement Cert.KernelIdeal.κ "neg_log2_e" .f32 0xBFB8AA3B#32
      ((-((Real.log 2)⁻¹) : ℝ) : EReal) rfl,
    equal⟩

end Cert.Proof

end
